-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_atom_each [hPre_one_atom_each : Cert.Pre_one_atom_each.Facts] (m : (ℓ : Loc Cert.KernelIdeal.nD Cert.KernelIdeal.τ Cert.KernelIdeal.sig) → Buf (Elt Ideal) ℓ) : Prop :=
  ∀ c : Dev Cert.KernelIdeal.nD,
    (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_one_atom_each.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_atom_each [hPre_one_atom_each : Cert.Pre_one_atom_each.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_one_atom_each.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_one_atom_each [hKernelIdeal : Cert.KernelIdeal.Facts] [hPre_one_atom_each : Cert.Pre_one_atom_each.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_atom_each m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_one_atom_each [hReferenceIdeal : Cert.ReferenceIdeal.Facts] [hPre_one_atom_each : Cert.Pre_one_atom_each.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_atom_each m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "nlog2e" .f32 0xBFB8AA3B#32 ((-((Real.log 2)⁻¹) : ℝ) : EReal)

def algebraic_KernelIdeal_ReferenceIdeal_pre_one_atom_each [hKernelIdeal : Cert.KernelIdeal.Facts] [hReferenceIdeal : Cert.ReferenceIdeal.Facts] [hPre_one_atom_each : Cert.Pre_one_atom_each.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_atom_each m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_one_atom_each : Cert.Pre_one_atom_each.Facts),
    quiescent_Kernel (hKernel := hKernel)
    ∧ quiescent_KernelIdeal (hKernelIdeal := hKernelIdeal)
    ∧ quiescent_KernelIdeal_pre_one_atom_each (hKernelIdeal := hKernelIdeal) (hPre_one_atom_each := hPre_one_atom_each)
    ∧ quiescent_ReferenceIdeal (hReferenceIdeal := hReferenceIdeal)
    ∧ quiescent_ReferenceIdeal_pre_one_atom_each (hReferenceIdeal := hReferenceIdeal) (hPre_one_atom_each := hPre_one_atom_each)
    ∧ preserves_Kernel_KernelIdeal
    ∧ algebraic_KernelIdeal_ReferenceIdeal_pre_one_atom_each (hKernelIdeal := hKernelIdeal) (hReferenceIdeal := hReferenceIdeal) (hPre_one_atom_each := hPre_one_atom_each)
-- ==== Pre_one_atom_each.lean ====
abbrev S4096 : Shape := ⟨1, ![4096]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩

class Facts : Prop where
  bcast_S_S4096 : S_.BroadcastsInDim S4096 (![] : Fin 0 → Fin S4096.rank)
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x1 : S_.BroadcastsInDim S1024x1 (![] : Fin 0 → Fin S1024x1.rank)

variable [Facts]

def fn_part1 {F : FTy → Type} [FloatOps F] (main_arg15 : FVec F S1024x1 .f32) (main_v1 : IVec S4096 1) (main_v2 : IVec S_ 1) (main_v3 : IVec S_ 1) (main_v4 : IVec S_ 1) (main_v7 : IVec S4096x1024 1) (main_v10 : IVec S1024x1024 1) (main_v13 : IVec S1024 1) (main_v14 : FVec F S1024x1 .f32) (main_v15 : FVec F S1024x1 .f32) : IVec S4096 1 × IVec S_ 1 × IVec S_ 1 × IVec S_ 1 × IVec S4096x1024 1 × IVec S1024x1024 1 × IVec S1024 1 × IVec S1024x1 1 × IVec S1024x1 1 :=
  let main_v16 : IVec S1024x1 1 := cmpf .olt main_v14 main_v15
  let main_v17 : FVec F S1024x1 .f32 := Host.absf main_arg15
  let main_cst_6 : FVec F S_ .f32 := constant S_ .f32 0x7F800000#32
  let main_v18 : FVec F S1024x1 .f32 := broadcastInDim S1024x1 ![] bcast_S_S1024x1 main_cst_6
  let main_v19 : IVec S1024x1 1 := cmpf .olt main_v17 main_v18
  (main_v1, main_v2, main_v3, main_v4, main_v7, main_v10, main_v13, main_v16, main_v19)

def fn {F : FTy → Type} [FloatOps F] (main_arg0 : FVec F S4096 .f32) (main_arg1 : FVec F S4096x1024 .f32) (main_arg2 : IVec S4096 32) (main_arg3 : FVec F S1024x1024 .f32) (main_arg4 : FVec F S1024 .f32) (main_arg5 : FVec F S_ .f32) (main_arg6 : FVec F S_ .f32) (main_arg7 : FVec F S1024x1024 .f32) (main_arg8 : FVec F S_ .f32) (main_arg9 : FVec F S_ .f32) (main_arg10 : FVec F S1024x1024 .f32) (main_arg11 : FVec F S_ .f32) (main_arg12 : FVec F S_ .f32) (main_arg13 : FVec F S1024x1024 .f32) (main_arg14 : FVec F S1024x1 .f32) (main_arg15 : FVec F S1024x1 .f32) (main_arg16 : FVec F S1024x1 .f32) (main_arg17 : FVec F S1024x1 .f32) : IVec S4096 1 × IVec S_ 1 × IVec S_ 1 × IVec S_ 1 × IVec S4096x1024 1 × IVec S1024x1024 1 × IVec S1024 1 × IVec S1024x1 1 × IVec S1024x1 1 :=
  let main_c : IVec S_ 32 := constantI S_ 32 1#32
  let main_v0 : IVec S4096 32 := broadcastInDim S4096 ![] bcast_S_S4096 main_c
  let main_v1 : IVec S4096 1 := cmpi .eq main_arg2 main_v0
  let main_cst : FVec F S_ .f32 := constant S_ .f32 0x3F800000#32
  let main_v2 : IVec S_ 1 := cmpf .oeq main_arg5 main_cst
  let main_cst_0 : FVec F S_ .f32 := constant S_ .f32 0x3F800000#32
  let main_v3 : IVec S_ 1 := cmpf .oeq main_arg8 main_cst_0
  let main_cst_1 : FVec F S_ .f32 := constant S_ .f32 0x3F800000#32
  let main_v4 : IVec S_ 1 := cmpf .oeq main_arg11 main_cst_1
  let main_v5 : FVec F S4096x1024 .f32 := Host.absf main_arg1
  let main_cst_2 : FVec F S_ .f32 := constant S_ .f32 0x7F800000#32
  let main_v6 : FVec F S4096x1024 .f32 := broadcastInDim S4096x1024 ![] bcast_S_S4096x1024 main_cst_2
  let main_v7 : IVec S4096x1024 1 := cmpf .olt main_v5 main_v6
  let main_v8 : FVec F S1024x1024 .f32 := Host.absf main_arg3
  let main_cst_3 : FVec F S_ .f32 := constant S_ .f32 0x7F800000#32
  let main_v9 : FVec F S1024x1024 .f32 := broadcastInDim S1024x1024 ![] bcast_S_S1024x1024 main_cst_3
  let main_v10 : IVec S1024x1024 1 := cmpf .olt main_v8 main_v9
  let main_v11 : FVec F S1024 .f32 := Host.absf main_arg4
  let main_cst_4 : FVec F S_ .f32 := constant S_ .f32 0x7F800000#32
  let main_v12 : FVec F S1024 .f32 := broadcastInDim S1024 ![] bcast_S_S1024 main_cst_4
  let main_v13 : IVec S1024 1 := cmpf .olt main_v11 main_v12
  let main_v14 : FVec F S1024x1 .f32 := Host.absf main_arg14
  let main_cst_5 : FVec F S_ .f32 := constant S_ .f32 0x7F800000#32
  let main_v15 : FVec F S1024x1 .f32 := broadcastInDim S1024x1 ![] bcast_S_S1024x1 main_cst_5
  fn_part1 (F := F) main_arg15 main_v1 main_v2 main_v3 main_v4 main_v7 main_v10 main_v13 main_v14 main_v15
-- ==== Kernel.lean ====
abbrev S4096 : Shape := ⟨1, ![4096]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S4096x1 : Shape := ⟨2, ![4096, 1]⟩
abbrev S1x1024 : Shape := ⟨2, ![1, 1024]⟩
abbrev S1 : Shape := ⟨1, ![1]⟩

abbrev nBuf : Space → Nat
  | .hbm => 25
  | .vmem => 9
  | .smem => 3
  | _ => 0

abbrev bufTy : (tb : Table) → Fin (tcTables nBuf tb) → BufTy
  | .hbm, ⟨0, _⟩ => ⟨S4096, .f32⟩
  | .hbm, ⟨1, _⟩ => ⟨S4096x1024, .f32⟩
  | .hbm, ⟨2, _⟩ => ⟨S4096, .i32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S_, .f32⟩
  | .hbm, ⟨12, _⟩ => ⟨S_, .f32⟩
  | .hbm, ⟨13, _⟩ => ⟨S1024x1024, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S4096x1, .f32⟩
  | .hbm, ⟨19, _⟩ => ⟨S1x1024, .f32⟩
  | .hbm, ⟨20, _⟩ => ⟨S1x1024, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S4096x1024, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "nlog2e" => some ((-((Real.log 2)⁻¹) : ℝ) : EReal)
  | _ => none
-- ==== ReferenceIdeal.lean ====
abbrev S4096 : Shape := ⟨1, ![4096]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1 : Shape := ⟨1, ![1]⟩
abbrev S4095 : Shape := ⟨1, ![4095]⟩
abbrev S4096x1 : Shape := ⟨2, ![4096, 1]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S4096, .f32⟩
  | 1 => ⟨S4096x1024, .f32⟩
  | 2 => ⟨S4096, .i32⟩
  | 3 => ⟨S1024x1024, .f32⟩
  | 4 => ⟨S1024, .f32⟩
  | 5 => ⟨S_, .f32⟩
  | 6 => ⟨S_, .f32⟩
  | 7 => ⟨S1024x1024, .f32⟩
  | 8 => ⟨S_, .f32⟩
  | 9 => ⟨S_, .f32⟩
  | 10 => ⟨S1024x1024, .f32⟩
  | 11 => ⟨S_, .f32⟩
  | 12 => ⟨S_, .f32⟩
  | 13 => ⟨S1024x1024, .f32⟩
  | 14 => ⟨S1024x1, .f32⟩
  | 15 => ⟨S1024x1, .f32⟩
  | 16 => ⟨S1024x1, .f32⟩
  | 17 => ⟨S1024x1, .f32⟩
  | 18 => ⟨S1024x1024, .f32⟩
  | 19 => ⟨S4096x1024, .f32⟩
  | 20 => ⟨S1x1024, .f32⟩
  | 21 => ⟨S4096x1024, .f32⟩
  | 22 => ⟨S4096x1024, .f32⟩
  | 23 => ⟨S4096, .i32⟩
  | 24 => ⟨S1, .i32⟩
  | 25 => ⟨S4095, .i32⟩
  | 26 => ⟨S4096, .i32⟩
  | 27 => ⟨S_, .i32⟩
  | 28 => ⟨S1, .i32⟩
  | 29 => ⟨S_, .i32⟩
  | 30 => ⟨S4096, .i32⟩
  | 31 => ⟨S_, .i32⟩
  | 32 => ⟨S_, .i32⟩
  | 33 => ⟨S4096, .i32⟩
  | 34 => ⟨S_, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S_, .i32⟩
  | 45 => ⟨S4096, .i32⟩
  | 46 => ⟨S4096, .i32⟩
  | 47 => ⟨S_, .i32⟩
  | 48 => ⟨S_, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S1, .i32⟩
  | 62 => ⟨S_, .i32⟩
  | 63 => ⟨S4096x1, .i32⟩
  | 64 => ⟨S4096x1, .i1⟩
  | 65 => ⟨S1x1, .i32⟩
  | 66 => ⟨S4096x1, .i32⟩
  | 67 => ⟨S4096x1, .i1⟩
  | 68 => ⟨S4096x1, .i1⟩
  | 69 => ⟨S_, .i1⟩
  | 70 => ⟨S4096, .i1⟩
  | 71 => ⟨S4096, .i32⟩
  | 72 => ⟨S_, .i32⟩
  | 73 => ⟨S4096, .i32⟩
  | 74 => ⟨S4096, .i32⟩
  | 75 => ⟨S_, .f32⟩
  | 76 => ⟨S4096, .f32⟩
  | 77 => ⟨S4096, .i1⟩
  | 78 => ⟨S4096x1, .i1⟩
  | 79 => ⟨S1024, .f32⟩
  | 80 => ⟨S1x1024, .f32⟩
  | 81 => ⟨S1024, .f32⟩
  | 82 => ⟨S1x1024, .f32⟩
  | 83 => ⟨S4096x1024, .i1⟩
  | 84 => ⟨S4096x1024, .f32⟩
  | 85 => ⟨S4096x1024, .f32⟩
  | 86 => ⟨S4096x1024, .f32⟩
  | 87 => ⟨S4096x1, .i1⟩
  | 88 => ⟨S1024, .f32⟩
  | 89 => ⟨S1x1024, .f32⟩
  | 90 => ⟨S1024, .f32⟩
  | 91 => ⟨S1x1024, .f32⟩
  | 92 => ⟨S4096x1024, .i1⟩
  | 93 => ⟨S4096x1024, .f32⟩
  | 94 => ⟨S4096x1024, .f32⟩
  | 95 => ⟨S4096x1024, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x1024, .f32⟩
  | 105 => ⟨S4096x1024, .f32⟩
  | 106 => ⟨S_, .f32⟩
  | 107 => ⟨S4096, .f32⟩
  | 108 => ⟨S_, .f32⟩
  | 109 => ⟨S_, .f32⟩
  | 110 => ⟨S4096, .f32⟩
  | 111 => ⟨S4096, .f32⟩
  | 112 => ⟨S4096, .f32⟩
  | 113 => ⟨S_, .f32⟩
  | 114 => ⟨S4096, .f32⟩
  | 115 => ⟨S4096, .f32⟩
  | 116 => ⟨S4096, .f32⟩
  | 117 => ⟨S_, .f32⟩
  | 118 => ⟨S4096, .f32⟩
  | 119 => ⟨S4096x1, .i32⟩
  | 120 => ⟨S4096, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096, .f32⟩

abbrev hbmTy0_1 (i : Nat) : BufTy := match i % 128 with
  | 0 => ⟨S4096x1, .i32⟩
  | 1 => ⟨S4096, .f32⟩
  | 2 => ⟨S4096, .f32⟩
  | 3 => ⟨S_, .i32⟩
  | 4 => ⟨S4096, .i32⟩
  | 5 => ⟨S4096, .i1⟩
  | 6 => ⟨S_, .i32⟩
  | 7 => ⟨S4096, .i32⟩
  | 8 => ⟨S4096, .i32⟩
  | 9 => ⟨S4096, .i32⟩
  | 10 => ⟨S4096x1, .i32⟩
  | 11 => ⟨S4096, .f32⟩
  | 12 => ⟨S4096, .f32⟩
  | 13 => ⟨S4096x1, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S1024x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S1024x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S1024x1024, .f32⟩
  | 70 => ⟨S4096x1024, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call0_v0 : Ref sig .tc := ⟨.hbm, 24, rfl⟩
abbrev main_call0_v1 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_call1_call0_c : Ref sig .tc := ⟨.hbm, 31, rfl⟩
abbrev main_call1_call0_v0 : Ref sig .tc := ⟨.hbm, 32, rfl⟩
abbrev main_v9 : Ref sig .tc := ⟨.hbm, 33, rfl⟩
abbrev main_c_1 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_call2_call0_c : Ref sig .tc := ⟨.hbm, 47, rfl⟩
abbrev main_call2_call0_v0 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v21 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_c_4 : Ref sig .tc := ⟨.hbm, 72, rfl⟩
abbrev main_call3_v14 : Ref sig .tc := ⟨.hbm, 73, rfl⟩
abbrev main_v22 : Ref sig .tc := ⟨.hbm, 74, rfl⟩
abbrev main_cst : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v36 : Ref sig .tc := ⟨.hbm, 95, rfl⟩
abbrev main_c_6 : Ref sig .tc := ⟨.hbm, 96, rfl⟩
abbrev main_v37 : Ref sig .tc := ⟨.hbm, 97, rfl⟩
abbrev main_v38 : Ref sig .tc := ⟨.hbm, 98, rfl⟩
abbrev main_c_7 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_8 : Ref sig .tc := ⟨.hbm, 106, rfl⟩
abbrev main_v45 : Ref sig .tc := ⟨.hbm, 107, rfl⟩
abbrev main_cst_9 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_10 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_11 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_c_12 : Ref sig .tc := ⟨.hbm, 121, rfl⟩
abbrev main_v56 : Ref sig .tc := ⟨.hbm, 122, rfl⟩
abbrev main_v57 : Ref sig .tc := ⟨.hbm, 123, rfl⟩
abbrev main_c_13 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_c_14 : Ref sig .tc := ⟨.hbm, 131, rfl⟩
abbrev main_v64 : Ref sig .tc := ⟨.hbm, 132, rfl⟩
abbrev main_v65 : Ref sig .tc := ⟨.hbm, 133, rfl⟩
abbrev main_c_15 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_c_16 : Ref sig .tc := ⟨.hbm, 142, rfl⟩
abbrev main_v73 : Ref sig .tc := ⟨.hbm, 143, rfl⟩
abbrev main_v74 : Ref sig .tc := ⟨.hbm, 144, rfl⟩
abbrev main_c_17 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_18 : Ref sig .tc := ⟨.hbm, 159, rfl⟩
abbrev main_v88 : Ref sig .tc := ⟨.hbm, 160, rfl⟩
abbrev main_v89 : Ref sig .tc := ⟨.hbm, 161, rfl⟩
abbrev main_cst_19 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_cst_20 : Ref sig .tc := ⟨.hbm, 174, rfl⟩
abbrev main_v101 : Ref sig .tc := ⟨.hbm, 175, rfl⟩
abbrev main_v102 : Ref sig .tc := ⟨.hbm, 176, rfl⟩
abbrev main_cst_21 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_22 : Ref sig .tc := ⟨.hbm, 190, rfl⟩
abbrev main_v115 : Ref sig .tc := ⟨.hbm, 191, rfl⟩
abbrev main_v116 : Ref sig .tc := ⟨.hbm, 192, rfl⟩
abbrev main_cst_23 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩

abbrev nD : Nat := 1
abbrev τ : Topo := Topo.v7x

variable {F : FTy → Type} [FloatOps F]
-- ==== Proof.Scalars.lean ====
/- The arithmetic of one element over the extended reals: the gated unit `x / (1 + e^(-b x))` as the kernel and as the
   reference compute it, the softplus weight of the reference, and which values are finite. -/
module

public import Idealize.ShloMosaic.PureOps.Ideal
public import Idealize.ShloMosaic.PureOps.Ideal.Laws

@[expose] public section

noncomputable section

open scoped BigOperators

namespace Cert.Scalars

open Idealize.ShloMosaic

/-! ### Literals -/

/-- The pattern of `1.0` denotes one. -/
theorem ofBits_one : Ideal.ofBits .f32 0x3F800000#32 = 1 := by
  simp [Ideal.ofBits, Ideal.ieee, -EReal.coe_mul]; norm_num

/-- The pattern of `0.0` denotes zero. -/
theorem ofBits_zero : Ideal.ofBits .f32 0x00000000#32 = 0 := by
  simp [Ideal.ofBits, Ideal.ieee, -EReal.coe_mul]

/-- The pattern of `1024.0` denotes 1024. -/
theorem ofBits_1024 : Ideal.ofBits .f32 0x44800000#32 = ((1024 : ℝ) : EReal) := by
  simp [Ideal.ofBits, Ideal.ieee, -EReal.coe_mul]; norm_num

/-- The pattern of the positive infinity denotes the greatest extended real. -/
theorem ofBits_inf : Ideal.ofBits .f32 0x7F800000#32 = ⊤ := by
  simp [Ideal.ofBits, Ideal.ieee, -EReal.coe_mul]

/-! ### The gated unit -/

/-- The gated unit with slope `b`: `x / (1 + e^(-(b x)))`. -/
def gate (b x : EReal) : EReal := Ideal.div x (1 + Ideal.exp (-(b * x)))

/-- The real `-1 / log 2`, by which the kernel turns a power of `e` into a power of two. -/
def negInvLog2 : EReal := ((-((Real.log 2)⁻¹) : ℝ) : EReal)

/-- Two to the power `(b · (-1 / log 2)) · x` is `e` to the power `-(b x)`, at every extended real. -/
theorem exp2_scaled (b x : EReal) : Ideal.exp2 (b * negInvLog2 * x) = Ideal.exp (-(b * x)) := by
  have hl : 0 < Real.log 2 := Real.log_pos (by norm_num)
  have hneg : -((Real.log 2)⁻¹) < 0 := neg_lt_zero.2 (inv_pos.2 hl)
  rw [mul_right_comm, mul_comm (b * x)]
  unfold negInvLog2
  induction b * x using EReal.rec with
  | bot => rw [EReal.coe_mul_bot_of_neg hneg, EReal.neg_bot]; rfl
  | top => rw [EReal.coe_mul_top_of_neg hneg, EReal.neg_top]; rfl
  | coe r =>
    rw [← EReal.coe_mul, ← EReal.coe_neg]
    show ((Real.rpow 2 _ : ℝ) : EReal) = ((Real.exp _ : ℝ) : EReal)
    refine congrArg _ ((Real.rpow_def_of_pos (by norm_num) _).trans (congrArg Real.exp ?_))
    field_simp

/-- The kernel's form of the gated unit. -/
theorem gate_of_exp2 (b x : EReal) : Ideal.div x (1 + Ideal.exp2 (b * negInvLog2 * x)) = gate b x := by
  rw [exp2_scaled]; rfl

/-- An exponential is never negative. -/
theorem exp_nonneg (x : EReal) : 0 ≤ Ideal.exp x := by
  induction x using EReal.rec with
  | bot => exact le_refl _
  | top => exact le_top
  | coe r => exact EReal.coe_nonneg.2 (Real.exp_pos r).le

/-- One plus an exponential is not zero. -/
theorem one_add_exp_ne_zero (x : EReal) : 1 + Ideal.exp x ≠ 0 :=
  ne_of_gt (lt_of_lt_of_le zero_lt_one (le_add_of_nonneg_right (exp_nonneg x)))

/-- The reference's form of the gated unit, its outer factor being one. -/
theorem gate_of_product (b x : EReal) : 1 * x * Ideal.div 1 (1 + Ideal.exp (-(b * x))) = gate b x := by
  unfold gate Ideal.div
  rw [if_neg (one_add_exp_ne_zero _), if_neg (one_add_exp_ne_zero _), one_mul, one_mul]

/-! ### Finite values -/

/-- The extended real is a real number. -/
def Finite (x : EReal) : Prop := ∃ r : ℝ, x = (r : EReal)

/-- A magnitude below the infinity makes a real number. -/
theorem finite_of_abs_lt {x : EReal} (h : max x (-x) < ⊤) : Finite x := by
  induction x using EReal.rec with
  | bot => exact absurd h (by simp)
  | top => exact absurd h (by simp)
  | coe r => exact ⟨r, rfl⟩

theorem finite_zero : Finite 0 := ⟨0, rfl⟩

/-- A product of two real numbers is one. -/
theorem Finite.mul {x y : EReal} : Finite x → Finite y → Finite (x * y)
  | ⟨a, ha⟩, ⟨b, hb⟩ => ⟨a * b, by rw [ha, hb, EReal.coe_mul]⟩

/-- A sum of two real numbers is one. -/
theorem Finite.add {x y : EReal} : Finite x → Finite y → Finite (x + y)
  | ⟨a, ha⟩, ⟨b, hb⟩ => ⟨a + b, by rw [ha, hb, EReal.coe_add]⟩

/-- A finite sum of real numbers is one. -/
theorem Finite.sum {ι : Type} (s : Finset ι) (f : ι → EReal) (h : ∀ i ∈ s, Finite (f i)) : Finite (∑ i ∈ s, f i) := by
  classical
  induction s using Finset.induction_on with
  | empty => exact finite_zero
  | insert a s ha ih =>
    rw [Finset.sum_insert ha]
    exact (h a (Finset.mem_insert_self a s)).add (ih fun i hi => h i (Finset.mem_insert_of_mem hi))

/-! ### The softplus weight -/

/-- The softplus weight `log (1 + e^(a / √1024))` of a score `a`. -/
def weight (a : EReal) : EReal := Ideal.log (1 + Ideal.exp (Ideal.div a (Ideal.sqrt ((1024 : ℝ) : EReal))))

/-- The weight of a real score is a positive real. -/
theorem weight_pos {a : EReal} (h : Finite a) : ∃ r : ℝ, 0 < r ∧ weight a = (r : EReal) := by
  obtain ⟨s, rfl⟩ := h
  have hq : Ideal.sqrt ((1024 : ℝ) : EReal) = (Real.sqrt 1024 : EReal) := if_neg (by norm_num)
  have hne : Real.sqrt 1024 ≠ 0 := (Real.sqrt_pos.2 (by norm_num)).ne'
  unfold weight
  rw [hq, Ideal.div_coe hne, ← EReal.coe_mul]
  generalize s * (1 / Real.sqrt 1024) = t
  have he := Real.exp_pos t
  refine ⟨Real.log (1 + Real.exp t), Real.log_pos (by linarith), ?_⟩
  show Ideal.log (((1 : ℝ) : EReal) + (Real.exp t : EReal)) = _
  rw [← EReal.coe_add]
  exact if_neg (by linarith)

/-- A share of the whole: a molecule with one atom gives it everything, `p · w / w = p` for a positive real `w`. -/
theorem mul_div_self_of_pos (p : EReal) {r : ℝ} (h : 0 < r) : Ideal.div (p * (r : EReal)) (r : EReal) = p := by
  rw [Ideal.div_coe h.ne', mul_assoc, ← EReal.coe_mul, mul_one_div_cancel h.ne', EReal.coe_one, mul_one]

end Cert.Scalars

end
-- ==== Proof.Layer.lean ====
/- The layer both programs compute, one row at a time, over the extended reals: a row's charge scales one of two value
   vectors, and a gated two-step residual followed by a gated linear map makes the output. -/
module

public import proofs.«01_k».proof.Proof.Scalars
public import Idealize.ShloMosaic.PureOps

@[expose] public section

noncomputable section

open scoped BigOperators

namespace Cert.Layer

open Idealize.ShloMosaic Cert.Scalars

/-- A row of 1024 features. -/
abbrev Row : Type := Fin 1024 → EReal

/-- The first value where the charge is not negative, the second where it is. -/
def pick (p a b : EReal) : EReal := if 0 ≤ p then a else b

/-- A select on "the charge is at least zero" is the pick. -/
theorem select_eq_pick (p a b : EReal) : Scalar.select (Ideal.cmp .oge p 0) a b = pick p a b := by
  unfold Scalar.select Ideal.cmp pick
  by_cases h : (0 : EReal) ≤ p <;> simp [h]

/-- A pick between two real numbers is one. -/
theorem finite_pick {p a b : EReal} (ha : Finite a) (hb : Finite b) : Finite (pick p a b) := by
  unfold pick; split
  · exact ha
  · exact hb

/-- The row's scaled value: the charge times the value vector of its sign. -/
def value (p : EReal) (u v : Row) : Row := fun j => p * pick p (u j) (v j)

/-- A linear map by the rows of a matrix: entry `j` is the sum over `k` of `x k · W j k`. -/
def linear (W : Fin 1024 → Row) (x : Row) : Row := fun j => ∑ k : Fin 1024, x k * W j k

/-- The residual: `a + W₂ (gate (W₁ (gate a)))`. -/
def residual (b₁ b₂ : EReal) (W₁ W₂ : Fin 1024 → Row) (a : Row) : Row :=
  fun j => a j + linear W₂ (fun k => gate b₂ (linear W₁ (fun l => gate b₁ (a l)) k)) j

/-- The layer's output row. -/
def output (b₁ b₂ b₃ : EReal) (W₁ W₂ W₃ : Fin 1024 → Row) (a : Row) : Row :=
  linear W₃ fun k => gate b₃ (residual b₁ b₂ W₁ W₂ a k)

end Cert.Layer

end
-- ==== Proof.KernelBlock.lean ====
/- What one run of the kernel's body stores, entry by entry: the layer's output for the rows of its block of charges. -/
module

public import proofs.«01_k».proof.Proof.Gen.KernelIdeal.Value
public import proofs.«01_k».proof.Proof.Layer
public import Idealize.ShloMosaic.Lib.MatmulPlain
public import Idealize.ShloMosaic.Lib.Tactic

@[expose] public section

noncomputable section

open scoped BigOperators

namespace Cert.KernelBlock

open Idealize.ShloMosaic Idealize.ShloMosaic.TcCoe Idealize.ShloMosaic.ValueIdx Idealize.SL.Sem
open Cert.KernelIdeal Cert.KernelIdeal.Gen Cert.Scalars Cert.Layer

/-! ### The operations at an entry -/

/-- The named constant is minus the reciprocal of the natural logarithm of two. -/
theorem named_value : Named.named (F := Ideal) κ "nlog2e" (φ := .f32) 0xBFB8AA3B#32 = negInvLog2 :=
  IdealRules.named_const.ideal_named_scalar _ _ _ _ rfl

/-- A column spread over the columns is the column's entry at the row. -/
theorem spread_col {α : Type} (x : S1024x1.Idx → α) (h : S1024x1.Broadcasts S1024x1024) (r j : Fin 1024) :
    broadcastTo S1024x1024 x h (ix2 r j) = x (ix2 r (0 : Fin 1)) :=
  broadcastTo_apply x h _ _ fun a => match a with
    | ⟨0, _⟩ => rfl
    | ⟨1, _⟩ => rfl

/-- A row spread over the rows is the row's entry at the column. -/
theorem spread_row {α : Type} (x : S1x1024.Idx → α) (h : S1x1024.Broadcasts S1024x1024) (r j : Fin 1024) :
    broadcastTo S1024x1024 x h (ix2 r j) = x (ix2 (0 : Fin 1) j) :=
  broadcastTo_apply x h _ _ fun a => match a with
    | ⟨0, _⟩ => rfl
    | ⟨1, _⟩ => rfl

/-- The block product against a matrix's rows, at an entry. -/
theorem product_at (x w : FVec Ideal S1024x1024 .f32) (r j : Fin 1024) :
    matmul dot_S1024x1024_S1024x1024_S1024x1024_1_1_0_0_n_n none x w (constant S1024x1024 .f32 0x00000000#32) (ix2 r j)
      = linear (fun j k => w (ix2 j k)) (fun k => x (ix2 r k)) j :=
  (Ideal.matmul_transposedRhs_apply (M := 1024) (K := 1024) (N := 1024) none x w (constant S1024x1024 .f32 0x00000000#32) r j).trans
    ((congrArg (· + _) ofBits_zero).trans (zero_add _))

/-- The kernel's gate, at an entry: a quotient by one plus a power of two. -/
theorem gate_at (x : FVec Ideal S1024x1024 .f32) (b : EReal) (i : S1024x1024.Idx) :
    divf x (addf (broadcast S1024x1024 (Scalar.ofBits .f32 0x3F800000#32 : Ideal .f32))
      (exp2 (mulf (broadcast S1024x1024 (Scalar.mulf (F := Ideal) (φ := .f32) b (Named.named κ "nlog2e" 0xBFB8AA3B#32))) x))) i
      = gate b (x i) := by
  show Ideal.div (x i) (Ideal.ofBits .f32 0x3F800000#32 + Ideal.exp2 (b * Named.named (F := Ideal) κ "nlog2e" (φ := .f32) 0xBFB8AA3B#32 * x i)) = _
  rw [ofBits_one, named_value, gate_of_exp2]

/-! ### The stages -/

/-- The first stage: the charge times the value vector of its sign. -/
theorem value_at (x3 : Vec Ideal S1024x1 .f32) (x4 x5 : Vec Ideal S1x1024 .f32) (r j : Fin 1024) :
    k0_pay3 (F := Ideal) x3 x4 x5 (ix2 r j)
      = value (x3 (ix2 r (0 : Fin 1))) (fun j => x4 (ix2 (0 : Fin 1) j)) (fun j => x5 (ix2 (0 : Fin 1) j)) j := by
  unfold k0_pay3
  simp only [shapeCast_self]
  show broadcastTo S1024x1024 x3 _ (ix2 r j)
      * Scalar.select (broadcastTo S1024x1024 (cmpf .oge x3 (broadcast S1024x1 (Scalar.ofBits .f32 0x00000000#32 : Ideal .f32))) _ (ix2 r j))
          (broadcastTo S1024x1024 x4 _ (ix2 r j)) (broadcastTo S1024x1024 x5 _ (ix2 r j)) = _
  rw [spread_col, spread_col, spread_row, spread_row]
  show x3 (ix2 r (0 : Fin 1)) * Scalar.select (Ideal.cmp .oge (x3 (ix2 r (0 : Fin 1))) (Ideal.ofBits .f32 0x00000000#32)) _ _ = _
  rw [ofBits_zero, select_eq_pick]
  rfl

/-- The second stage: two gates about the first linear map. -/
theorem inner_at (b₁ b₂ : EReal) (x3 : Vec Ideal S1024x1 .f32) (x4 x5 : Vec Ideal S1x1024 .f32) (w : Vec Ideal S1024x1024 .f32)
    (r j : Fin 1024) :
    k0_pay4 (F := Ideal) b₁ b₂ x3 x4 x5 w (ix2 r j)
      = gate b₂ (linear (fun j k => w (ix2 j k)) (fun k => gate b₁ (k0_pay3 (F := Ideal) x3 x4 x5 (ix2 r k))) j) := by
  unfold k0_pay4
  refine (gate_at _ b₂ (ix2 r j)).trans (congrArg (gate b₂) ((product_at _ _ r j).trans ?_))
  exact congrArg (fun x => linear (fun j k => w (ix2 j k)) x j) (funext fun k => gate_at _ b₁ (ix2 r k))

/-- The last stage: the residual, the third gate and the output map. -/
theorem outer_at (b₃ : EReal) (a y : FVec Ideal S1024x1024 .f32) (w₂ w₃ : Vec Ideal S1024x1024 .f32) (r j : Fin 1024) :
    k0_pay1 (F := Ideal) (k0_pay2 b₃) a y w₂ (constant S1024x1024 .f32 0x00000000#32) w₃ (ix2 r j)
      = linear (fun j k => w₃ (ix2 j k))
          (fun k => gate b₃ (a (ix2 r k) + linear (fun j k => w₂ (ix2 j k)) (fun l => y (ix2 r l)) k)) j := by
  unfold k0_pay1 k0_pay2
  refine (product_at _ _ r j).trans ?_
  refine congrArg (fun x => linear (fun j k => w₃ (ix2 j k)) x j) (funext fun k => ?_)
  exact (gate_at _ b₃ (ix2 r k)).trans (congrArg (fun z => gate b₃ (a (ix2 r k) + z)) (product_at _ _ r k))

/-- Two zero offsets are the zero offset. -/
theorem zeros2 : (![0, 0] : Fin 2 → Nat) = fun _ => 0 := funext fun a => match a with
  | ⟨0, _⟩ => rfl
  | ⟨1, _⟩ => rfl

/-- A one-element buffer read at any place of any access is its element. -/
theorem only_entry (x : Vec Ideal S1 .f32) (i : S1.Idx) : x i = x (ix1 (0 : Fin 1)) :=
  congrArg x ((eq_ix1 i).trans (congrArg ix1 (Subsingleton.elim (α := Fin 1) _ _)))

/-- What the body leaves in the output's block, at an entry, when it finds its inputs' blocks holding `x0` … `x8`. -/
theorem block_at (c : Dev nD) (i : grid0.Coords) (a1 : Memref sig .tc .smem S1 .f32) (h1 : a1.IsWhole)
    (a2 : Memref sig .tc .smem S1 .f32) (h2 : a2.IsWhole) (a3 : Memref sig .tc .smem S1 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (a9 : Memref sig .tc .vmem S1024x1024 .f32) (h9 : a9.IsWhole)
    (a10 : Memref sig .tc .vmem S1024x1024 .f32) (h10 : a10.IsWhole)
    (x0 x1 x2 : Vec Ideal S1 .f32) (x3 : Vec Ideal S1024x1 .f32) (x4 x5 : Vec Ideal S1x1024 .f32) (x6 x7 x8 : Vec Ideal S1024x1024 .f32)
    (r j : Fin 1024) :
    out0_A_9 c i a1 h1 a2 h2 a3 h3 a4 h4 a5 h5 a6 h6 a7 h7 a8 h8 a9 h9 a10 h10 x0 x1 x2 x3 x4 x5 x6 x7 x8 (ix2 r j)
      = output (x0 (ix1 (0 : Fin 1))) (x1 (ix1 (0 : Fin 1))) (x2 (ix1 (0 : Fin 1))) (fun j k => x6 (ix2 j k)) (fun j k => x7 (ix2 j k)) (fun j k => x8 (ix2 j k))
          (value (x3 (ix2 r (0 : Fin 1))) (fun j => x4 (ix2 (0 : Fin 1) j)) (fun j => x5 (ix2 (0 : Fin 1) j))) j := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7 x8)]
  unfold kernelRun0_A
  dsimp only
  sl_unfold_words
  rw [View.canon_unit_zero zeros2]
  simp only [View.readAt_eq_ld, h1.read_unread, h2.read_unread, h3.read_unread, h4.read_unread, h5.read_unread, h6.read_unread,
    h7.read_unread, h8.read_unread, h9.read_unread, View.ld_unit_zero (S := S1024x1024) zeros2,
    View.ld_unit_zero (S := S1024x1) zeros2, View.ld_unit_zero (S := S1x1024) zeros2]
  refine (outer_at _ _ _ _ _ r j).trans ?_
  simp only [inner_at, value_at]
  rw [show ∀ p, View.ld x0 (Rect.unit ![0] ![1] inb_S1_S1_0) p = x0 (ix1 (0 : Fin 1)) from fun p => only_entry x0 _,
    show ∀ p, View.ld x1 (Rect.unit ![0] ![1] inb_S1_S1_0) p = x1 (ix1 (0 : Fin 1)) from fun p => only_entry x1 _,
    show ∀ p, View.ld x2 (Rect.unit ![0] ![1] inb_S1_S1_0) p = x2 (ix1 (0 : Fin 1)) from fun p => only_entry x2 _]
  rfl

end Cert.KernelBlock

end
-- ==== Proof.KernelValue.lean ====
/- What the kernel's result array holds after its run: every row is the layer's output for its row of charges. -/
module

public import proofs.«01_k».proof.Proof.KernelBlock
public import Idealize.ShloMosaic.Lib.ValueLayoutCasts

@[expose] public section

noncomputable section

open scoped BigOperators

namespace Cert.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Scalars Cert.Layer Cert.KernelBlock

variable (m : (ℓ : Loc nD τ sig) → Buf (Elt Ideal) ℓ) (c : Dev nD)

/-! ### What the host's reshapes hand the kernel -/

/-- The charges, as a column. -/
theorem charges_entry : V m c main_call0_v0 = shapeCast S4096x1 (m ((c : Thread nD τ).loc main_arg0)) shapeCasts_S4096_S4096x1 := by
  show StableHlo.after hostOps0 _ (Proc.devRef .tc main_call0_v0) = _
  after_results
  rfl

/-- The first value vector, as a row. -/
theorem plus_entry : V m c main_call0_v1 = shapeCast S1x1024 (m ((c : Thread nD τ).loc main_arg16)) shapeCasts_S1024x1_S1x1024 := by
  show StableHlo.after hostOps0 _ (Proc.devRef .tc main_call0_v1) = _
  after_results
  rfl

/-- The second value vector, as a row. -/
theorem minus_entry : V m c main_call0_v2 = shapeCast S1x1024 (m ((c : Thread nD τ).loc main_arg17)) shapeCasts_S1024x1_S1x1024 := by
  show StableHlo.after hostOps0 _ (Proc.devRef .tc main_call0_v2) = _
  after_results
  rfl

/-- The first gate's factor, as a one-element vector. -/
theorem beta1_entry : V m c main_call0_v3 = shapeCast S1 (m ((c : Thread nD τ).loc main_arg6)) shapeCasts_S_S1 := by
  show StableHlo.after hostOps0 _ (Proc.devRef .tc main_call0_v3) = _
  after_results
  rfl

/-- The second gate's factor, as a one-element vector. -/
theorem beta2_entry : V m c main_call0_v4 = shapeCast S1 (m ((c : Thread nD τ).loc main_arg9)) shapeCasts_S_S1 := by
  show StableHlo.after hostOps0 _ (Proc.devRef .tc main_call0_v4) = _
  after_results
  rfl

/-- The third gate's factor, as a one-element vector. -/
theorem beta3_entry : V m c main_call0_v5 = shapeCast S1 (m ((c : Thread nD τ).loc main_arg12)) shapeCasts_S_S1 := by
  show StableHlo.after hostOps0 _ (Proc.devRef .tc main_call0_v5) = _
  after_results
  rfl

/-- A scalar cast to one element is the scalar. -/
theorem cast_scalar (x : S_.Idx → EReal) (h : S_.ShapeCasts S1) (i : S1.Idx) : shapeCast S1 x h i = x ix0 :=
  congrArg x (eq_ix0 _)

/-- A column cast to a row. -/
theorem cast_col (x : S1024x1.Idx → EReal) (h : S1024x1.ShapeCasts S1x1024) (j : Fin 1024) :
    shapeCast S1x1024 x h (ix2 (0 : Fin 1) j) = x (ix2 j (0 : Fin 1)) :=
  shapeCast_apply x h _ _ (by
    rw [Shape.rowMajor_val_two, Shape.rowMajor_val_two]
    show j.val * 1 + 0 = 0 * 1024 + j.val
    omega)

/-! ### The windows' blocks -/

/-- The row of the whole array that row `r` of point `t`'s block is. -/
def rowOf (t : Fin cfg0.N) (r : Fin 1024) : Fin 4096 :=
  ⟨t.val * 1024 + r.val, by have h : t.val < 4 := N_0 ▸ t.isLt; have := r.isLt; omega⟩

/-- Block `t` of the charges starts at its own row. -/
theorem charges_index : ∀ t : Fin grid0.N, win0_3.index t 0 = t.val ∧ win0_3.index t 1 = 0 := by decide +kernel

/-- Block `t` of the result starts at its own row. -/
theorem result_index : ∀ t : Fin grid0.N, win0_9.index t 0 = t.val ∧ win0_9.index t 1 = 0 := by decide +kernel

/-- The blocks of the value vectors and of the matrices are whole, at every point. -/
theorem whole_index : ∀ t : Fin grid0.N, (∀ a, win0_4.index t a = 0) ∧ (∀ a, win0_5.index t a = 0) ∧ (∀ a, win0_6.index t a = 0)
    ∧ (∀ a, win0_7.index t a = 0) ∧ (∀ a, win0_8.index t a = 0) := by decide +kernel

/-- Block `t` of the charges, at a row. -/
theorem charges_at (t : Fin cfg0.N) (r : Fin 1024) :
    (iblk m c 3 t : Vec Ideal S1024x1 .f32) (ix2 r (0 : Fin 1)) = m ((c : Thread nD τ).loc main_arg0) (ix1 (rowOf t r)) := by
  unfold iblk
  rw [View.read_apply]
  show V m c main_call0_v0 _ = _
  rw [charges_entry, ← shapeCast_a_a1_apply (m ((c : Thread nD τ).loc main_arg0)) shapeCasts_S4096_S4096x1 (rowOf t r) (0 : Fin 1)]
  refine congrArg _ (funext fun a => Fin.ext ?_)
  match a with
  | ⟨0, _⟩ => show win0_3.index t 0 * 1024 + 1 * r.val = t.val * 1024 + r.val; rw [(charges_index t).1]; omega
  | ⟨1, _⟩ => show win0_3.index t 1 * 1 + 1 * 0 = 0; rw [(charges_index t).2]

/-- The first value vector's block, at a column. -/
theorem plus_at (t : Fin cfg0.N) (j : Fin 1024) :
    (iblk m c 4 t : Vec Ideal S1x1024 .f32) (ix2 (0 : Fin 1) j) = m ((c : Thread nD τ).loc main_arg16) (ix2 j (0 : Fin 1)) := by
  unfold iblk
  rw [View.read_apply]
  show V m c main_call0_v1 _ = _
  rw [plus_entry, ← cast_col (m ((c : Thread nD τ).loc main_arg16)) shapeCasts_S1024x1_S1x1024 j]
  refine congrArg _ (funext fun a => Fin.ext ?_)
  match a with
  | ⟨0, _⟩ => show win0_4.index t 0 * 1 + 1 * 0 = 0; rw [(whole_index t).1 0]
  | ⟨1, _⟩ => show win0_4.index t 1 * 1024 + 1 * j.val = j.val; rw [(whole_index t).1 1]; omega

/-- The second value vector's block, at a column. -/
theorem minus_at (t : Fin cfg0.N) (j : Fin 1024) :
    (iblk m c 5 t : Vec Ideal S1x1024 .f32) (ix2 (0 : Fin 1) j) = m ((c : Thread nD τ).loc main_arg17) (ix2 j (0 : Fin 1)) := by
  unfold iblk
  rw [View.read_apply]
  show V m c main_call0_v2 _ = _
  rw [minus_entry, ← cast_col (m ((c : Thread nD τ).loc main_arg17)) shapeCasts_S1024x1_S1x1024 j]
  refine congrArg _ (funext fun a => Fin.ext ?_)
  match a with
  | ⟨0, _⟩ => show win0_5.index t 0 * 1 + 1 * 0 = 0; rw [(whole_index t).2.1 0]
  | ⟨1, _⟩ => show win0_5.index t 1 * 1024 + 1 * j.val = j.val; rw [(whole_index t).2.1 1]; omega

/-- The first gate's factor. -/
theorem beta1_at (t : Fin cfg0.N) (i : S1.Idx) : (iblk m c 0 t : Vec Ideal S1 .f32) i = m ((c : Thread nD τ).loc main_arg6) ix0 := by
  unfold iblk
  rw [View.read_apply]
  show V m c main_call0_v3 _ = _
  rw [beta1_entry]
  exact cast_scalar _ _ _

/-- The second gate's factor. -/
theorem beta2_at (t : Fin cfg0.N) (i : S1.Idx) : (iblk m c 1 t : Vec Ideal S1 .f32) i = m ((c : Thread nD τ).loc main_arg9) ix0 := by
  unfold iblk
  rw [View.read_apply]
  show V m c main_call0_v4 _ = _
  rw [beta2_entry]
  exact cast_scalar _ _ _

/-- The third gate's factor. -/
theorem beta3_at (t : Fin cfg0.N) (i : S1.Idx) : (iblk m c 2 t : Vec Ideal S1 .f32) i = m ((c : Thread nD τ).loc main_arg12) ix0 := by
  unfold iblk
  rw [View.read_apply]
  show V m c main_call0_v5 _ = _
  rw [beta3_entry]
  exact cast_scalar _ _ _

/-- An index of a square block read at a zero block index is that index. -/
theorem whole_at (w : Fin 2 → Nat) (h : ∀ a, w a = 0) (i : S1024x1024.Idx) (a : Fin 2) : w a * 1024 + 1 * (i a).val = (i a).val := by
  rw [h a]; omega

/-- The first matrix's block is the matrix. -/
theorem matrix1_at (t : Fin cfg0.N) (i : S1024x1024.Idx) :
    (iblk m c 6 t : Vec Ideal S1024x1024 .f32) i = m ((c : Thread nD τ).loc main_arg7) i := by
  unfold iblk
  rw [View.read_apply]
  show V m c main_arg7 _ = _
  rw [V_main_arg7]
  refine congrArg _ (funext fun a => Fin.ext ?_)
  match a with
  | ⟨0, _⟩ => exact whole_at _ (whole_index t).2.2.1 i 0
  | ⟨1, _⟩ => exact whole_at _ (whole_index t).2.2.1 i 1

/-- The second matrix's block is the matrix. -/
theorem matrix2_at (t : Fin cfg0.N) (i : S1024x1024.Idx) :
    (iblk m c 7 t : Vec Ideal S1024x1024 .f32) i = m ((c : Thread nD τ).loc main_arg10) i := by
  unfold iblk
  rw [View.read_apply]
  show V m c main_arg10 _ = _
  rw [V_main_arg10]
  refine congrArg _ (funext fun a => Fin.ext ?_)
  match a with
  | ⟨0, _⟩ => exact whole_at _ (whole_index t).2.2.2.1 i 0
  | ⟨1, _⟩ => exact whole_at _ (whole_index t).2.2.2.1 i 1

/-- The output matrix's block is the matrix. -/
theorem matrix3_at (t : Fin cfg0.N) (i : S1024x1024.Idx) :
    (iblk m c 8 t : Vec Ideal S1024x1024 .f32) i = m ((c : Thread nD τ).loc main_arg13) i := by
  unfold iblk
  rw [View.read_apply]
  show V m c main_arg13 _ = _
  rw [V_main_arg13]
  refine congrArg _ (funext fun a => Fin.ext ?_)
  match a with
  | ⟨0, _⟩ => exact whole_at _ (whole_index t).2.2.2.2 i 0
  | ⟨1, _⟩ => exact whole_at _ (whole_index t).2.2.2.2 i 1

/-! ### The result array -/

/-- The layer's output for every row of device `c`'s arguments. -/
def layer : Buf (Elt Ideal) ((c : Thread nD τ).loc main_v0) := fun (i : S4096x1024.Idx) =>
  output (m ((c : Thread nD τ).loc main_arg6) ix0) (m ((c : Thread nD τ).loc main_arg9) ix0) (m ((c : Thread nD τ).loc main_arg12) ix0)
    (fun j k => m ((c : Thread nD τ).loc main_arg7) (ix2 j k)) (fun j k => m ((c : Thread nD τ).loc main_arg10) (ix2 j k))
    (fun j k => m ((c : Thread nD τ).loc main_arg13) (ix2 j k))
    (value (m ((c : Thread nD τ).loc main_arg0) (ix1 (i 0))) (fun j => m ((c : Thread nD τ).loc main_arg16) (ix2 j (0 : Fin 1)))
      (fun j => m ((c : Thread nD τ).loc main_arg17) (ix2 j (0 : Fin 1)))) (i 1)

/-- What point `t`'s body leaves in the output's block is the layer at the block's rows. -/
theorem point_at (t : Fin cfg0.N) (r j : Fin 1024) : outsAt0 m c t (ix2 r j) = layer m c (ix2 (rowOf t r) j) := by
  unfold outsAt0
  rw [block_at]
  simp only [charges_at, plus_at, minus_at, beta1_at, beta2_at, beta3_at, matrix1_at, matrix2_at, matrix3_at]
  rfl

/-- Every point writes back its block of the layer. -/
theorem flushed_eq (t : Fin cfg0.N) :
    (dats m 0 c).flushed 9 t = ((cfg0.win 9).blk t).view.read (Elt Ideal) (layer m c) := by
  rw [Value.flushed9]
  funext y
  obtain ⟨r, j, rfl⟩ : ∃ r j : Fin 1024, y = ix2 r j := ⟨y 0, y 1, eq_ix2 y⟩
  rw [View.read_apply]
  refine Eq.trans (show _ = outsAt0 m c t (ix2 r j) from rfl) ((point_at m c t r j).trans ?_)
  refine congrArg (layer m c) (funext fun a => Fin.ext ?_)
  match a with
  | ⟨0, _⟩ => show t.val * 1024 + r.val = win0_9.index t 0 * 1024 + 1 * r.val; rw [(result_index t).1]; omega
  | ⟨1, _⟩ => show j.val = win0_9.index t 1 * 1024 + 1 * j.val; rw [(result_index t).2]; omega

/-- The blocks cover the result array: row `i` lies in the block of point `i / 1024`. -/
theorem covered (i : S4096x1024.Idx) : ∃ t : Fin cfg0.N, (cfg0.win 9).flush t = true ∧ i ∈ ((cfg0.win 9).blk t).view.set := by
  have h0 : (i 0 : Nat) < 4096 := (i 0).isLt
  have h1 : (i 1 : Nat) < 1024 := (i 1).isLt
  have hN : cfg0.N = 4 := N_0
  refine ⟨⟨(i 0 : Nat) / 1024, by omega⟩, flush0_9 _, ?_⟩
  generalize ht : (⟨(i 0 : Nat) / 1024, _⟩ : Fin cfg0.N) = t
  have hv : t.val = (i 0 : Nat) / 1024 := by rw [← ht]
  show i ∈ ((View.whole main_v0).slice (win0_9.rect t)).set
  rw [View.set_slice_whole, Rect.mem_set_unit]
  intro a
  match a with
  | ⟨0, _⟩ =>
    show win0_9.index t 0 * 1024 ≤ (i 0 : Nat) ∧ (i 0 : Nat) < win0_9.index t 0 * 1024 + 1024
    rw [(result_index t).1]; omega
  | ⟨1, _⟩ =>
    show win0_9.index t 1 * 1024 ≤ (i 1 : Nat) ∧ (i 1 : Nat) < win0_9.index t 1 * 1024 + 1024
    rw [(result_index t).2]; omega

/-- The result array ends holding the layer's output. -/
theorem final : (dats m 0 c).arrAt 9 cfg0.N = layer m c :=
  (dats m 0 c).arrAt_eq_of_cover 9 (layer m c) (fun t _ => flushed_eq m c t) covered

end Cert.KernelValue

end
-- ==== Proof.Segments.lean ====
/- The reference's segment numbers when every molecule has one atom: the repeat of `0, 1, …, 4095`, each once, is that
   sequence itself, so every later look-up by segment reads the row's own entry. -/
module

public import proofs.«01_k».proof.Proof.Gen.ReferenceIdeal.Read
public import Idealize.ShloMosaic.Lib.Routing.OpsOne
public import Idealize.ShloMosaic.Lib.Routing.OpsSet
public import Idealize.ShloMosaic.Lib.ReduceAll

@[expose] public section

noncomputable section

open scoped BigOperators

namespace Cert.Segments

open Idealize.ShloMosaic Idealize.ShloMosaic.ValueIdx Idealize.ShloMosaic.Routing
open Cert.ReferenceIdeal Cert.ReferenceIdeal.Gen Cert.ReferenceIdeal.Read

/-! ### Words and small sums -/

/-- A concatenation whose pieces hold one value everywhere holds it everywhere. -/
theorem concatenate_const {α : Type} {t : Shape} (a : Fin t.rank) (xs : List ((s : Shape) × (s.Idx → α)))
    (h : Shape.Concatenates (xs.map (·.1)) t a) (v : α) (hv : ∀ p ∈ xs, ∀ i, p.2 i = v) (j : t.Idx) :
    concatenate t a xs h j = v := by
  unfold concatenate
  exact hv _ (List.getElem_mem _) _

/-- A sum of ones over the positions after the first, up to position `j`, is `j`. -/
theorem sum_after_first (j : Nat) : ((List.range (j + 1)).map fun i => if i = 0 then 0 else 1).sum = j := by
  induction j with
  | zero => rfl
  | succ j ih => rw [List.range_succ, List.map_append, List.sum_append, ih]; simp

/-- A sum of ones over the first `n` positions is `n`. -/
theorem sum_ones (n : Nat) : ((List.range n).map fun _ => 1).sum = n := by simp

/-- Exactly one position below `n` is `x`, when `x` is below `n`. -/
theorem count_eq_one (n x : Nat) (h : x < n) : Nat.count (fun i => i = x) n = 1 := by
  induction n with
  | zero => omega
  | succ n ih =>
    rw [Nat.count_succ]
    by_cases e : x = n
    · subst e
      rw [if_pos rfl, Nat.add_eq_right, Nat.count_eq_card_filter_range, Finset.card_eq_zero, Finset.filter_eq_empty_iff]
      intro i hi
      exact (Finset.mem_range.1 hi).ne
    · rw [if_neg fun q => e q.symm, ih (by omega)]

/-- The wrap of a negative index leaves a row number below 4096 alone. -/
theorem wrapped {x a : BitVec 32} {p : Nat} (hp : p < 4096) (hx : x = BitVec.ofNat 32 p) :
    Scalar.select (IntOp.cmpi .slt x 0#32) a x = BitVec.ofNat 32 p := by
  rw [wrap_of_lt x a (by rw [hx, BitVec.toNat_ofNat]; omega), hx]

/-- A row number below 4096 is at least zero and at most 4095, in the signed order. -/
theorem in_bounds {x : BitVec 32} {p : Nat} (hp : p < 4096) (hx : x = BitVec.ofNat 32 p) :
    IntOp.andi (IntOp.cmpi .sge x 0#32) (IntOp.cmpi .sle x 4095#32) = 1#1 := by
  have hi : x.toInt = (p : Int) := by rw [hx, StableHlo.Predicate.toInt_ofNat_small _ (by omega)]
  have h0 : (0#32 : BitVec 32).sle x = true := by
    rw [BitVec.sle_iff_toInt_le, hi]; show (0 : Int) ≤ p; omega
  have h1 : x.sle 4095#32 = true := by
    rw [BitVec.sle_iff_toInt_le, hi]; show (p : Int) ≤ 4095; omega
  simp [IntOp.andi, IntOp.cmpi, h0, h1]

/-! ### The repeat, step by step -/

section

variable (x2 : IVec S4096 32) (h1 : ∀ i, x2 i = 1#32)
include h1

/-- The rolled counts are all one. -/
theorem rolled (i : S4096.Idx) : val_main_v6 (F := Ideal) x2 i = 1#32 := by
  unfold val_main_v6
  refine concatenate_const _ _ _ _ (fun p hp j => ?_) i
  rcases List.mem_cons.1 hp with rfl | hp
  · exact (val_main_call0_v0_apply x2 j).trans (h1 _)
  · obtain rfl := List.mem_singleton.1 hp
    exact (val_main_call0_v1_apply x2 j).trans (h1 _)

/-- The counts before each molecule: none before the first, one more before every other. -/
theorem before (e : Fin 4096) :
    val_main_v8 (F := Ideal) x2 (ix1 e) = BitVec.ofNat 32 (if e.val = 0 then 0 else 1) := by
  unfold val_main_v8
  rw [scatter_one scatter_S4096_S1_S__n_0_0_0 rfl rfl _ _ _ (0 : Fin 4096) (by decide) rfl e, rolled x2 h1]
  by_cases h : e = 0
  · subst h; rfl
  · have hv : ¬ e.val = 0 := fun q => h (Fin.ext q)
    rw [if_neg h, if_neg hv]

/-- The first atom of molecule `j` is atom `j`. -/
theorem first_atom (j : Fin 4096) : val_main_v9 (F := Ideal) x2 (ix1 j) = BitVec.ofNat 32 j.val := by
  unfold val_main_v9
  rw [cumsum1 (N := 4096) (Nm1 := 4095) rfl _ (fun i => if i = 0 then 0 else 1) (before x2 h1) _ rfl _ _ j, sum_after_first]

/-- The same as a column of scatter indices. -/
theorem first_atom_col (j : Fin 4096) :
    val_main_v16 (F := Ideal) x2 (ix2 j (0 : Fin 1)) = BitVec.ofNat 32 j.val := by
  rw [val_main_v16_apply, show idx_main_v16 (ix2 j (0 : Fin 1)) = ix1 j from eq_ix1 _, val_main_v15_apply, val_main_v12_apply,
    val_main_v11_apply, val_main_c_2_apply]
  exact wrapped j.isLt (first_atom x2 h1 j)

/-- Each atom is the first of exactly one molecule. -/
theorem starts (x : Fin 4096) : val_main_v18 (F := Ideal) x2 (ix1 x) = BitVec.ofNat 32 1 := by
  unfold val_main_v18
  refine (scatter_hist scatter_S4096_S4096x1_S4096_n_0_0_1 rfl rfl rfl _ (fun i => ?_) _ _ (fun i => ?_) (fun i => i)
    (first_atom_col x2 h1) (fun i => by have := i.isLt; omega) x).trans (by rw [count_eq_one _ _ x.isLt])
  · exact (val_main_v10_apply i).trans (val_main_c_1_apply _)
  · exact (val_main_v17_apply i).trans (val_main_c_4_apply _)

/-- Up to atom `j` there are `j + 1` first atoms. -/
theorem starts_upto (j : Fin 4096) : val_main_v19 (F := Ideal) x2 (ix1 j) = BitVec.ofNat 32 (j.val + 1) := by
  unfold val_main_v19
  rw [cumsum1 (N := 4096) (Nm1 := 4095) rfl _ (fun _ => 1) (starts x2 h1) _ rfl _ _ j, sum_ones]

/-- So atom `j` belongs to molecule `j`. -/
theorem owner (j : Fin 4096) : val_main_v21 (F := Ideal) x2 (ix1 j) = BitVec.ofNat 32 j.val := by
  rw [val_main_v21_apply, starts_upto x2 h1 j]
  show BitVec.ofNat 32 (j.val + 1) - 1#32 = _
  rw [BitVec.ofNat_add]
  exact BitVec.add_sub_cancel _ _

/-- The same as a column of look-up indices. -/
theorem owner_col (j : Fin 4096) :
    val_main_call3_v5 (F := Ideal) x2 (ix2 j (0 : Fin 1)) = BitVec.ofNat 32 j.val := by
  rw [val_main_call3_v5_apply, show idx_main_call3_v5 (ix2 j (0 : Fin 1)) = ix1 j from eq_ix1 _, val_main_call3_v4_apply, val_main_call3_v1_apply,
    val_main_call3_v0_apply, val_main_call3_c_apply]
  exact wrapped j.isLt (owner x2 h1 j)

/-- Every look-up index is in bounds. -/
theorem all_in_bounds (i : S4096x1.Idx) : val_main_call3_v11 (F := Ideal) x2 i = 1#1 := by
  obtain ⟨a, b, rfl⟩ : ∃ (a : Fin 4096) (b : Fin 1), i = ix2 a b := ⟨i 0, i 1, eq_ix2 i⟩
  obtain rfl : b = 0 := Subsingleton.elim _ _
  rw [val_main_call3_v11_apply, val_main_call3_v7_apply, val_main_call3_v10_apply, val_main_call3_v6_apply,
    val_main_call3_c_2_apply, val_main_call3_v9_apply, val_main_call3_v8_apply, val_main_call3_c_1_apply]
  exact in_bounds a.isLt (owner_col x2 h1 a)

/-- The segment number of atom `p` is `p`. -/
theorem segment (p : Fin 4096) : val_main_v22 (F := Ideal) x2 (ix1 p) = BitVec.ofNat 32 p.val := by
  have hb : val_main_call3_v12 (F := Ideal) x2 (ix1 p) = 1#1 := by
    unfold val_main_call3_v12
    exact Host.reduce_andi_one _ _ _ _ _ rfl (all_in_bounds x2 h1)
  have hg : val_main_call3_v13 (F := Ideal) x2 (ix1 p) = BitVec.ofNat 32 p.val := by
    unfold val_main_call3_v13
    rw [gather_take1 gather_S4096_S4096x1_S4096_n_0_n_n_0_1_1 rfl rfl rfl rfl _ _ p p (owner_col x2 h1 p) (by decide)]
    rfl
  rw [val_main_v22_apply, hb, hg]
  rfl

/-! ### The columns of indices made of it -/

/-- The rows of the keys are looked up at the row itself. -/
theorem key_row (p : Fin 4096) : val_main_v42 (F := Ideal) x2 (ix2 p (0 : Fin 1)) = BitVec.ofNat 32 p.val := by
  rw [val_main_v42_apply, show idx_main_v42 (ix2 p (0 : Fin 1)) = ix1 p from eq_ix1 _, val_main_v41_apply, val_main_v38_apply,
    val_main_v37_apply, val_main_c_6_apply]
  exact wrapped p.isLt (segment x2 h1 p)

/-- The weights are added at the atom's own position. -/
theorem weight_row (p : Fin 4096) : val_main_v54 (F := Ideal) x2 (ix2 p (0 : Fin 1)) = BitVec.ofNat 32 p.val :=
  (val_main_v54_apply x2 _).trans ((congrArg _ (eq_ix1 _)).trans (segment x2 h1 p))

/-- The molecule's charge is looked up at the atom's own position. -/
theorem charge_row (p : Fin 4096) : val_main_v61 (F := Ideal) x2 (ix2 p (0 : Fin 1)) = BitVec.ofNat 32 p.val := by
  rw [val_main_v61_apply, show idx_main_v61 (ix2 p (0 : Fin 1)) = ix1 p from eq_ix1 _, val_main_v60_apply, val_main_v57_apply,
    val_main_v56_apply, val_main_c_12_apply]
  exact wrapped p.isLt (segment x2 h1 p)

/-- The molecule's total weight is looked up at the atom's own position. -/
theorem total_row (p : Fin 4096) : val_main_v69 (F := Ideal) x2 (ix2 p (0 : Fin 1)) = BitVec.ofNat 32 p.val := by
  rw [val_main_v69_apply, show idx_main_v69 (ix2 p (0 : Fin 1)) = ix1 p from eq_ix1 _, val_main_v68_apply, val_main_v65_apply,
    val_main_v64_apply, val_main_c_14_apply]
  exact wrapped p.isLt (segment x2 h1 p)

/-- The rows of the values are looked up at the row itself. -/
theorem value_row (p : Fin 4096) : val_main_v78 (F := Ideal) x2 (ix2 p (0 : Fin 1)) = BitVec.ofNat 32 p.val := by
  rw [val_main_v78_apply, show idx_main_v78 (ix2 p (0 : Fin 1)) = ix1 p from eq_ix1 _, val_main_v77_apply, val_main_v74_apply,
    val_main_v73_apply, val_main_c_16_apply]
  exact wrapped p.isLt (segment x2 h1 p)

end

end Cert.Segments

end
-- ==== Proof.RefValue.lean ====
/- What the reference computes, entry by entry, when every molecule has one atom, every gate's outer factor is one and the
   arguments of the softplus weight are real: the layer's output row. -/
module

public import proofs.«01_k».proof.Proof.Segments
public import proofs.«01_k».proof.Proof.Layer

@[expose] public section

noncomputable section

open scoped BigOperators

namespace Cert.RefValue

open Idealize.ShloMosaic Idealize.ShloMosaic.ValueIdx Idealize.ShloMosaic.Routing
open Cert.ReferenceIdeal Cert.ReferenceIdeal.Gen Cert.ReferenceIdeal.Read Cert.Scalars Cert.Layer Cert.Segments

/-- The column of 1024 rows as a row. -/
def ofCol (x : FVec Ideal S1024x1 .f32) : Row := fun j => x (ix2 j (0 : Fin 1))

/-- The matrix as its rows. -/
def rows (x : FVec Ideal S1024x1024 .f32) : Fin 1024 → Row := fun j k => x (ix2 j k)

variable (x0 : FVec Ideal S4096 .f32) (x1 : FVec Ideal S4096x1024 .f32) (x2 : IVec S4096 32)
  (x3 : FVec Ideal S1024x1024 .f32) (x4 : FVec Ideal S1024 .f32) (x5 x6 : FVec Ideal S_ .f32)
  (x7 : FVec Ideal S1024x1024 .f32) (x8 x9 : FVec Ideal S_ .f32) (x10 : FVec Ideal S1024x1024 .f32)
  (x11 x12 : FVec Ideal S_ .f32) (x13 : FVec Ideal S1024x1024 .f32) (x14 x15 x16 x17 : FVec Ideal S1024x1 .f32)

/-! ### The two tables picked by the charge's sign -/

/-- The comparison with zero, at a row. -/
theorem sign_bit (p : Fin 4096) : val_main_v24 (F := Ideal) x0 (ix1 p) = Ideal.cmp .oge (x0 (ix1 p)) 0 := by
  rw [val_main_v24_apply, val_main_v23_apply, val_main_cst_apply]
  exact congrArg (Ideal.cmp .oge (x0 (ix1 p))) ofBits_zero

/-- The keys, one row per molecule. -/
theorem keys (p : Fin 4096) (j : Fin 1024) :
    val_main_v30 (F := Ideal) x0 x14 x15 (ix2 p j) = pick (x0 (ix1 p)) (ofCol x14 j) (ofCol x15 j) := by
  rw [val_main_v30_apply, val_main_call4_v0_apply, val_main_v25_apply, val_main_call4_v1_apply, val_main_v27_apply,
    val_main_v26_apply, val_main_call4_v2_apply, val_main_v29_apply, val_main_v28_apply,
    show idx_main_v25 (idx_main_call4_v0 (ix2 p j)) = ix1 p from eq_ix1 _, sign_bit, select_eq_pick]
  refine congrArg₂ (pick _) (congrArg x14 ((eq_ix2 _).trans ?_)) (congrArg x15 ((eq_ix2 _).trans ?_)) <;>
    exact congrArg₂ ix2 (Fin.ext (Nat.div_one _)) rfl

/-- The values, one row per molecule. -/
theorem values (p : Fin 4096) (j : Fin 1024) :
    val_main_v36 (F := Ideal) x0 x16 x17 (ix2 p j) = pick (x0 (ix1 p)) (ofCol x16 j) (ofCol x17 j) := by
  rw [val_main_v36_apply, val_main_call5_v0_apply, val_main_v31_apply, val_main_call5_v1_apply, val_main_v33_apply,
    val_main_v32_apply, val_main_call5_v2_apply, val_main_v35_apply, val_main_v34_apply,
    show idx_main_v31 (idx_main_call5_v0 (ix2 p j)) = ix1 p from eq_ix1 _, sign_bit, select_eq_pick]
  refine congrArg₂ (pick _) (congrArg x16 ((eq_ix2 _).trans ?_)) (congrArg x17 ((eq_ix2 _).trans ?_)) <;>
    exact congrArg₂ ix2 (Fin.ext (Nat.div_one _)) rfl

/-! ### The softplus weights -/

section

variable (h2 : ∀ i, x2 i = 1#32)
include h2

/-- The atom's key is its own molecule's. -/
theorem atom_key (p : Fin 4096) (j : Fin 1024) :
    val_main_v43 (F := Ideal) x0 x2 x14 x15 (ix2 p j) = pick (x0 (ix1 p)) (ofCol x14 j) (ofCol x15 j) := by
  unfold val_main_v43
  rw [gather_row gather_S4096x1024_S4096x1_S4096x1024_1_0_n_n_0_1_11024 rfl rfl rfl rfl rfl _ _ p j p (key_row x2 h2 p) (by decide)]
  exact keys x0 x14 x15 p j

/-- The atom's value is its own molecule's. -/
theorem atom_value (p : Fin 4096) (j : Fin 1024) :
    val_main_v79 (F := Ideal) x0 x2 x16 x17 (ix2 p j) = pick (x0 (ix1 p)) (ofCol x16 j) (ofCol x17 j) := by
  unfold val_main_v79
  rw [gather_row gather_S4096x1024_S4096x1_S4096x1024_1_0_n_n_0_1_11024 rfl rfl rfl rfl rfl _ _ p j p (value_row x2 h2 p) (by decide)]
  exact values x0 x16 x17 p j

/-- The atom's charge is its own molecule's. -/
theorem atom_charge (p : Fin 4096) : val_main_v62 (F := Ideal) x0 x2 (ix1 p) = x0 (ix1 p) := by
  unfold val_main_v62
  exact gather_take1 gather_S4096_S4096x1_S4096_n_0_n_n_0_1_1 rfl rfl rfl rfl _ _ p p (charge_row x2 h2 p) (by decide)

/-- The score of an atom is real when its embedding, the linear map and the keys are. -/
theorem score_finite (f1 : ∀ i, Finite (x1 i)) (f3 : ∀ i, Finite (x3 i)) (f4 : ∀ i, Finite (x4 i))
    (f14 : ∀ i, Finite (x14 i)) (f15 : ∀ i, Finite (x15 i)) (p : Fin 4096) :
    Finite (val_main_v45 (F := Ideal) x0 x1 x2 x3 x4 x14 x15 (ix1 p)) := by
  rw [val_main_v45_apply, val_main_cst_8_apply]
  refine Finite.add ⟨0, ofBits_zero⟩ (Finite.sum _ _ fun k _ => ?_)
  rw [show idx_main_v45 (ix1 p) k = ix2 p k from eq_ix2 _, val_main_v44_apply, atom_key x0 x2 x14 x15 h2, val_main_v4_apply,
    val_main_v1_apply, val_main_v3_apply, val_main_v2_apply]
  refine Finite.mul (Finite.add (Finite.sum _ _ fun l _ => ?_) (f4 _)) (finite_pick (f14 _) (f15 _))
  rw [val_main_v0_apply]
  exact (f1 _).mul (f3 _)

omit h2 in
/-- The softplus weight of an atom. -/
theorem atom_weight (p : Fin 4096) :
    val_main_v52 (F := Ideal) x0 x1 x2 x3 x4 x14 x15 (ix1 p)
      = weight (val_main_v45 (F := Ideal) x0 x1 x2 x3 x4 x14 x15 (ix1 p)) := by
  rw [val_main_v52_apply, val_main_v51_apply, val_main_v50_apply, val_main_cst_10_apply, val_main_v49_apply, val_main_v48_apply,
    val_main_v47_apply, val_main_v46_apply, val_main_cst_9_apply]
  generalize val_main_v45 (F := Ideal) x0 x1 x2 x3 x4 x14 x15 (ix1 p) = a
  show Ideal.log (Ideal.ofBits .f32 0x3F800000#32 + Ideal.exp (Ideal.div a (Ideal.sqrt (Ideal.ofBits .f32 0x44800000#32)))) = _
  rw [ofBits_one, ofBits_1024]
  rfl

/-- The total weight of an atom's molecule is the atom's own weight. -/
theorem total_weight (p : Fin 4096) :
    val_main_v70 (F := Ideal) x0 x1 x2 x3 x4 x14 x15 (ix1 p) = val_main_v52 (F := Ideal) x0 x1 x2 x3 x4 x14 x15 (ix1 p) := by
  unfold val_main_v70
  rw [gather_take1 gather_S4096_S4096x1_S4096_n_0_n_n_0_1_1 rfl rfl rfl rfl _ _ p p (total_row x2 h2 p) (by decide)]
  unfold val_main_v55
  generalize val_main_v52 (F := Ideal) x0 x1 x2 x3 x4 x14 x15 = w
  show val_main_v53 (F := Ideal) (ix1 p) + ∑ j ∈ _, w j = w (ix1 p)
  have hset : (Finset.univ.filter fun j => scatter_S4096_S4096x1_S4096_n_0_0_1.resultIdx? j (val_main_v54 (F := Ideal) x2) = some (ix1 p))
      = {ix1 p} := by
    ext j
    obtain ⟨i, rfl⟩ : ∃ i : Fin 4096, j = ix1 i := ⟨j 0, eq_ix1 j⟩
    rw [Finset.mem_filter, Finset.mem_singleton,
      scatter_lands scatter_S4096_S4096x1_S4096_n_0_0_1 rfl rfl rfl _ (fun i => i) (weight_row x2 h2) (fun i => by have := i.isLt; omega)]
    constructor
    · rintro ⟨-, e⟩; rw [Fin.ext e]
    · intro e; exact ⟨Finset.mem_univ _, congrArg (fun q : S4096.Idx => (q 0).val) e⟩
  rw [hset, Finset.sum_singleton, val_main_v53_apply, val_main_cst_11_apply]
  exact (congrArg (· + w (ix1 p)) ofBits_zero).trans (zero_add _)

/-- The atom's share of its molecule's charge is all of it, its weight being a positive real. -/
theorem atom_share (f1 : ∀ i, Finite (x1 i)) (f3 : ∀ i, Finite (x3 i)) (f4 : ∀ i, Finite (x4 i))
    (f14 : ∀ i, Finite (x14 i)) (f15 : ∀ i, Finite (x15 i)) (p : Fin 4096) :
    val_main_v71 (F := Ideal) x0 x1 x2 x3 x4 x14 x15 (ix1 p) = x0 (ix1 p) := by
  obtain ⟨r, hr, e⟩ := weight_pos (score_finite x0 x1 x2 x3 x4 x14 x15 h2 f1 f3 f4 f14 f15 p)
  rw [val_main_v71_apply, val_main_v63_apply, atom_charge x0 x2 h2, total_weight x0 x1 x2 x3 x4 x14 x15 h2, atom_weight, e]
  exact mul_div_self_of_pos _ hr

/-- The atom's scaled value. -/
theorem atom_scaled (f1 : ∀ i, Finite (x1 i)) (f3 : ∀ i, Finite (x3 i)) (f4 : ∀ i, Finite (x4 i))
    (f14 : ∀ i, Finite (x14 i)) (f15 : ∀ i, Finite (x15 i)) (p : Fin 4096) (j : Fin 1024) :
    val_main_v81 (F := Ideal) x0 x1 x2 x3 x4 x14 x15 x16 x17 (ix2 p j) = value (x0 (ix1 p)) (ofCol x16) (ofCol x17) j := by
  rw [val_main_v81_apply, val_main_v80_apply, val_main_v72_apply, atom_value x0 x2 x16 x17 h2,
    show idx_main_v72 (idx_main_v80 (ix2 p j)) = ix1 p from eq_ix1 _, atom_share x0 x1 x2 x3 x4 x14 x15 h2 f1 f3 f4 f14 f15]
  rfl

end

/-! ### The gates and the linear maps -/

/-- The printed gate over one value, its outer factor `a` being one. -/
theorem gate_printed {a b x : EReal} (ha : a = 1) :
    (a * x) * Ideal.div (Ideal.ofBits .f32 0x3F800000#32) (Ideal.ofBits .f32 0x3F800000#32 + Ideal.exp (-(b * x))) = gate b x := by
  rw [ha, ofBits_one, gate_of_product]

variable (a : Fin 4096 → Row)

/-- The first gate. -/
theorem gated1 (h5 : x5 ix0 = 1)
    (hv : ∀ p j, val_main_v81 (F := Ideal) x0 x1 x2 x3 x4 x14 x15 x16 x17 (ix2 p j) = a p j) (p : Fin 4096) (j : Fin 1024) :
    val_main_v92 (F := Ideal) x0 x1 x2 x3 x4 x5 x6 x14 x15 x16 x17 (ix2 p j) = gate (x6 ix0) (a p j) := by
  rw [val_main_v92_apply, val_main_v83_apply, val_main_v91_apply, val_main_v90_apply, val_main_cst_19_apply, val_main_v89_apply,
    val_main_v88_apply, val_main_cst_18_apply, val_main_v87_apply, val_main_v86_apply, val_main_v85_apply, val_main_v82_apply,
    val_main_v84_apply, hv, show idx_main_v82 (ix2 p j) = ix0 from eq_ix0 _, show idx_main_v84 (ix2 p j) = ix0 from eq_ix0 _]
  exact gate_printed h5

/-- The first linear map. -/
theorem mapped1 (h5 : x5 ix0 = 1)
    (hv : ∀ p j, val_main_v81 (F := Ideal) x0 x1 x2 x3 x4 x14 x15 x16 x17 (ix2 p j) = a p j) (p : Fin 4096) (j : Fin 1024) :
    val_main_v94 (F := Ideal) x0 x1 x2 x3 x4 x5 x6 x7 x14 x15 x16 x17 (ix2 p j)
      = linear (rows x7) (fun l => gate (x6 ix0) (a p l)) j := by
  rw [val_main_v94_apply]
  refine Finset.sum_congr rfl fun k _ => congrArg₂ (· * ·) ?_ ?_
  · rw [show lidx_main_v94 (ix2 p j) k = ix2 p k from eq_ix2 _]
    exact gated1 x0 x1 x2 x3 x4 x5 x6 x14 x15 x16 x17 a h5 hv p k
  · exact (val_main_v93_apply (F := Ideal) x7 _).trans (congrArg x7 (eq_ix2 _))

/-- The second gate. -/
theorem gated2 (h5 : x5 ix0 = 1) (h8 : x8 ix0 = 1)
    (hv : ∀ p j, val_main_v81 (F := Ideal) x0 x1 x2 x3 x4 x14 x15 x16 x17 (ix2 p j) = a p j) (p : Fin 4096) (j : Fin 1024) :
    val_main_v105 (F := Ideal) x0 x1 x2 x3 x4 x5 x6 x7 x8 x9 x14 x15 x16 x17 (ix2 p j)
      = gate (x9 ix0) (linear (rows x7) (fun l => gate (x6 ix0) (a p l)) j) := by
  rw [val_main_v105_apply, val_main_v96_apply, val_main_v104_apply, val_main_v103_apply, val_main_cst_21_apply, val_main_v102_apply,
    val_main_v101_apply, val_main_cst_20_apply, val_main_v100_apply, val_main_v99_apply, val_main_v98_apply, val_main_v95_apply,
    val_main_v97_apply, mapped1 x0 x1 x2 x3 x4 x5 x6 x7 x14 x15 x16 x17 a h5 hv,
    show idx_main_v95 (ix2 p j) = ix0 from eq_ix0 _, show idx_main_v97 (ix2 p j) = ix0 from eq_ix0 _]
  exact gate_printed h8

/-- The residual row. -/
theorem summed (h5 : x5 ix0 = 1) (h8 : x8 ix0 = 1)
    (hv : ∀ p j, val_main_v81 (F := Ideal) x0 x1 x2 x3 x4 x14 x15 x16 x17 (ix2 p j) = a p j) (p : Fin 4096) (j : Fin 1024) :
    val_main_v108 (F := Ideal) x0 x1 x2 x3 x4 x5 x6 x7 x8 x9 x10 x14 x15 x16 x17 (ix2 p j)
      = residual (x6 ix0) (x9 ix0) (rows x7) (rows x10) (a p) j := by
  rw [val_main_v108_apply, val_main_v107_apply, hv]
  refine congrArg (a p j + ·) (Finset.sum_congr rfl fun k _ => congrArg₂ (· * ·) ?_ ?_)
  · rw [show lidx_main_v107 (ix2 p j) k = ix2 p k from eq_ix2 _]
    exact gated2 x0 x1 x2 x3 x4 x5 x6 x7 x8 x9 x14 x15 x16 x17 a h5 h8 hv p k
  · exact (val_main_v106_apply (F := Ideal) x10 _).trans (congrArg x10 (eq_ix2 _))

/-- The third gate. -/
theorem gated3 (h5 : x5 ix0 = 1) (h8 : x8 ix0 = 1) (h11 : x11 ix0 = 1)
    (hv : ∀ p j, val_main_v81 (F := Ideal) x0 x1 x2 x3 x4 x14 x15 x16 x17 (ix2 p j) = a p j) (p : Fin 4096) (j : Fin 1024) :
    val_main_v119 (F := Ideal) x0 x1 x2 x3 x4 x5 x6 x7 x8 x9 x10 x11 x12 x14 x15 x16 x17 (ix2 p j)
      = gate (x12 ix0) (residual (x6 ix0) (x9 ix0) (rows x7) (rows x10) (a p) j) := by
  rw [val_main_v119_apply, val_main_v110_apply, val_main_v118_apply, val_main_v117_apply, val_main_cst_23_apply, val_main_v116_apply,
    val_main_v115_apply, val_main_cst_22_apply, val_main_v114_apply, val_main_v113_apply, val_main_v112_apply, val_main_v109_apply,
    val_main_v111_apply, summed x0 x1 x2 x3 x4 x5 x6 x7 x8 x9 x10 x14 x15 x16 x17 a h5 h8 hv,
    show idx_main_v109 (ix2 p j) = ix0 from eq_ix0 _, show idx_main_v111 (ix2 p j) = ix0 from eq_ix0 _]
  exact gate_printed h11

/-- Entry `(p, j)` of the reference's result is entry `j` of the layer's output for row `p`. -/
theorem result (h2 : ∀ i, x2 i = 1#32) (h5 : x5 ix0 = 1) (h8 : x8 ix0 = 1) (h11 : x11 ix0 = 1)
    (f1 : ∀ i, Finite (x1 i)) (f3 : ∀ i, Finite (x3 i)) (f4 : ∀ i, Finite (x4 i))
    (f14 : ∀ i, Finite (x14 i)) (f15 : ∀ i, Finite (x15 i)) (p : Fin 4096) (j : Fin 1024) :
    val_main_v121 (F := Ideal) x0 x1 x2 x3 x4 x5 x6 x7 x8 x9 x10 x11 x12 x13 x14 x15 x16 x17 (ix2 p j)
      = output (x6 ix0) (x9 ix0) (x12 ix0) (rows x7) (rows x10) (rows x13) (value (x0 (ix1 p)) (ofCol x16) (ofCol x17)) j := by
  rw [val_main_v121_apply]
  unfold output linear
  refine Finset.sum_congr rfl fun k _ => congrArg₂ (· * ·) ?_ ?_
  · rw [show lidx_main_v121 (ix2 p j) k = ix2 p k from eq_ix2 _]
    exact gated3 x0 x1 x2 x3 x4 x5 x6 x7 x8 x9 x10 x11 x12 x14 x15 x16 x17 _ h5 h8 h11
      (atom_scaled x0 x1 x2 x3 x4 x14 x15 x16 x17 h2 f1 f3 f4 f14 f15) p k
  · exact (val_main_v120_apply (F := Ideal) x13 _).trans (congrArg x13 (eq_ix2 _))

end Cert.RefValue

end
-- ==== Proof.PreValue.lean ====
/- What the precondition says of the arguments, entry by entry. -/
module

public import proofs.«01_k».proof.Proof.Gen.Pre_one_atom_each
public import proofs.«01_k».proof.Proof.Scalars
public import Idealize.ShloMosaic.Lib.ValueIdxCore

@[expose] public section

noncomputable section

namespace Cert.PreValue

open Idealize.ShloMosaic Idealize.ShloMosaic.ValueIdx
open Cert.Pre_one_atom_each Cert.Scalars

/-- A set bit made from a decided proposition says that the proposition holds. -/
theorem of_bit {p : Prop} [Decidable p] (h : BitVec.ofBool (decide p) = 1#1) : p := by
  by_contra hn
  rw [decide_eq_false hn] at h
  exact absurd h (by decide)

/-- A set integer-equality bit says that the words are equal. -/
theorem eq_of_bit {a b : BitVec 32} (h : IntOp.cmpi .eq a b = 1#1) : a = b := by
  by_contra hn
  have e : (a == b) = false := beq_eq_false_iff_ne.mpr hn
  unfold IntOp.cmpi at h
  dsimp only at h
  rw [e] at h
  exact absurd h (by decide)

/-- A set bit of "equals the constant one" says that the value is one. -/
theorem one_of_bit {x : EReal} (h : Ideal.cmp .oeq x (Ideal.ofBits .f32 0x3F800000#32) = 1#1) : x = 1 :=
  (of_bit h).trans ofBits_one

/-- A set bit of "the absolute value is below infinity" says that the value is real. -/
theorem finite_of_bit {x : EReal} (h : Ideal.cmp .olt (max x (-x)) (Ideal.ofBits .f32 0x7F800000#32) = 1#1) : Finite x :=
  finite_of_abs_lt (ofBits_inf ▸ of_bit h)

variable (x0 : FVec Ideal S4096 .f32) (x1 : FVec Ideal S4096x1024 .f32) (x2 : IVec S4096 32)
  (x3 : FVec Ideal S1024x1024 .f32) (x4 : FVec Ideal S1024 .f32) (x5 x6 : FVec Ideal S_ .f32)
  (x7 : FVec Ideal S1024x1024 .f32) (x8 x9 : FVec Ideal S_ .f32) (x10 : FVec Ideal S1024x1024 .f32)
  (x11 x12 : FVec Ideal S_ .f32) (x13 : FVec Ideal S1024x1024 .f32) (x14 x15 x16 x17 : FVec Ideal S1024x1 .f32)

/-- The precondition's nine outputs at their entries: every molecule has one atom, the three outer factors are one, and the
    embeddings, the linear map, its offset and the two key vectors are real. -/
theorem reads {q1 : IVec S4096 1} {q2 q3 q4 : IVec S_ 1} {q5 : IVec S4096x1024 1} {q6 : IVec S1024x1024 1} {q7 : IVec S1024 1}
    {q8 q9 : IVec S1024x1 1}
    (e : fn (F := Ideal) x0 x1 x2 x3 x4 x5 x6 x7 x8 x9 x10 x11 x12 x13 x14 x15 x16 x17 = (q1, q2, q3, q4, q5, q6, q7, q8, q9))
    (h1 : q1 = fun _ => 1#1) (h2 : q2 = fun _ => 1#1) (h3 : q3 = fun _ => 1#1) (h4 : q4 = fun _ => 1#1) (h5 : q5 = fun _ => 1#1)
    (h6 : q6 = fun _ => 1#1) (h7 : q7 = fun _ => 1#1) (h8 : q8 = fun _ => 1#1) (h9 : q9 = fun _ => 1#1) :
    (∀ i, x2 i = 1#32) ∧ x5 ix0 = 1 ∧ x8 ix0 = 1 ∧ x11 ix0 = 1 ∧ (∀ i, Finite (x1 i)) ∧ (∀ i, Finite (x3 i)) ∧ (∀ i, Finite (x4 i))
      ∧ (∀ i, Finite (x14 i)) ∧ (∀ i, Finite (x15 i)) := by
  subst h1 h2 h3 h4 h5 h6 h7 h8 h9
  unfold fn fn_part1 at e
  simp only [Prod.mk.injEq] at e
  obtain ⟨e1, e2, e3, e4, e5, e6, e7, e8, e9⟩ := e
  exact ⟨fun i => eq_of_bit (congrFun e1 i), one_of_bit (congrFun e2 ix0), one_of_bit (congrFun e3 ix0), one_of_bit (congrFun e4 ix0),
    fun i => finite_of_bit (congrFun e5 i), fun i => finite_of_bit (congrFun e6 i), fun i => finite_of_bit (congrFun e7 i),
    fun i => finite_of_bit (congrFun e8 i), fun i => finite_of_bit (congrFun e9 i)⟩

end Cert.PreValue

end
-- ==== Proof.Claims.lean ====
/- The claims: the programs' frames, the named constant, and the agreement of the kernel with the reference. -/
module

public import proofs.«01_k».proof.Defs
public import proofs.«01_k».proof.Proof.Gen.Kernel.Frame
public import proofs.«01_k».proof.Proof.KernelValue
public import proofs.«01_k».proof.Proof.RefValue
public import proofs.«01_k».proof.Proof.PreValue
public import proofs.«01_k».proof.Proof.Gen.ReferenceIdeal.Run
public import Idealize.ShloMosaic.Lib.Quiescent

@[expose] public section

noncomputable section

namespace Cert.Claims

open Idealize.ShloMosaic Idealize.ShloMosaic.TcCoe Idealize.ShloMosaic.ValueIdx Idealize.SL.Sem
open Idealize.ShloMosaic.StableHlo (launchContents)

/-! ### The frames -/

/-- The kernel ends with its arguments as launched and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does its idealization from any launch that meets the precondition. -/
theorem frame_ideal_pre : Cert.quiescent_KernelIdeal_pre_one_atom_each := fun m ρ _ => Cert.KernelIdeal.Gen.frame m ρ

/-- The reference ends with its arguments as launched; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference from any launch that meets the precondition. -/
theorem frame_reference_pre : Cert.quiescent_ReferenceIdeal_pre_one_atom_each := fun m ρ _ => frame_reference m ρ trivial

/-! ### The named constant -/

/-- The constant's name stands for minus the reciprocal of the natural logarithm of two. -/
theorem preserves : Cert.preserves_Kernel_KernelIdeal :=
  IdealRules.named_const.statement Cert.KernelIdeal.κ "nlog2e" .f32 0xBFB8AA3B#32 ((-((Real.log 2)⁻¹) : ℝ) : EReal) rfl

/-! ### The agreement -/

/-- What the reference finds in a buffer at its launch, given what the launch memory holds there. -/
theorem launched {m : (ℓ : Loc Cert.ReferenceIdeal.nD Cert.ReferenceIdeal.τ Cert.ReferenceIdeal.sig) → Buf (Elt Ideal) ℓ}
    {c : Dev Cert.ReferenceIdeal.nD} {b : Ref Cert.ReferenceIdeal.sig .tc} {y : Buf (Elt Ideal) (c.tc.loc b)}
    (g : m (c.tc.loc b) = y) : launchContents m c (Proc.devRef .tc b) = y := g

/-- Under the precondition both programs' result arrays end holding the layer's output of every row. -/
theorem agreement : Cert.algebraic_KernelIdeal_ReferenceIdeal_pre_one_atom_each := by
  intro m ρ m' ρ' hpre hagree
  refine ⟨fun c => Cert.KernelValue.layer m c, ?_, ?_⟩
  · exact (θ_run Cert.KernelIdeal.defs _ _).mono (fun _ h c => ⟨(h c).1.trans (Cert.KernelValue.final m c), (h c).2⟩)
      (Cert.KernelIdeal.Value.run_blocks (F := Ideal) m ρ)
  refine (θ_run Cert.ReferenceIdeal.defs _ _).mono (fun _ h c => ?_) (Cert.ReferenceIdeal.Value.run (F := Ideal) m' ρ')
  refine And.intro ((h c).1.trans ?_) (h c).2
  obtain ⟨g0, g1, g2, g3, g4, g5, g6, g7, g8, g9, g10, g11, g12, g13, g14, g15, g16, g17⟩ := hagree c
  obtain ⟨p1, p2, p3, p4, p5, p6, p7, p8, p9⟩ := hpre c
  obtain ⟨h2, h5, h8, h11, f1, f3, f4, f14, f15⟩ := Cert.PreValue.reads
    (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)) (m (c.tc.loc Cert.KernelIdeal.main_arg5))
    (m (c.tc.loc Cert.KernelIdeal.main_arg6)) (m (c.tc.loc Cert.KernelIdeal.main_arg7)) (m (c.tc.loc Cert.KernelIdeal.main_arg8))
    (m (c.tc.loc Cert.KernelIdeal.main_arg9)) (m (c.tc.loc Cert.KernelIdeal.main_arg10)) (m (c.tc.loc Cert.KernelIdeal.main_arg11))
    (m (c.tc.loc Cert.KernelIdeal.main_arg12)) (m (c.tc.loc Cert.KernelIdeal.main_arg13)) (m (c.tc.loc Cert.KernelIdeal.main_arg14))
    (m (c.tc.loc Cert.KernelIdeal.main_arg15)) (m (c.tc.loc Cert.KernelIdeal.main_arg16)) (m (c.tc.loc Cert.KernelIdeal.main_arg17))
    rfl p1 p2 p3 p4 p5 p6 p7 p8 p9
  refine (Cert.ReferenceIdeal.Read.val_main_v121_eq (F := Ideal) (launchContents m' c)).trans ?_
  rw [launched g0, launched g1, launched g2, launched g3, launched g4, launched g5, launched g6, launched g7, launched g8, launched g9,
    launched g10, launched g11, launched g12, launched g13, launched g14, launched g15, launched g16, launched g17]
  funext i
  obtain ⟨p, j, rfl⟩ : ∃ (p : Fin 4096) (j : Fin 1024), i = ix2 p j := ⟨i 0, i 1, eq_ix2 i⟩
  exact Cert.RefValue.result _ _ _ _ _ _ _ _ _ _ _ _ _ _ _ _ _ _ h2 h5 h8 h11 f1 f3 f4 f14 f15 p j

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_atom_each
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of this certificate, with the facts its programs rest on. -/
theorem claim : Cert.Claim :=
  ⟨Cert.Kernel.Gen.facts, Cert.KernelIdeal.Gen.facts, Cert.ReferenceIdeal.Gen.facts, Cert.Pre_one_atom_each.Gen.facts,
    Cert.Claims.frame_kernel, Cert.Claims.frame_ideal, Cert.Claims.frame_ideal_pre, Cert.Claims.frame_reference,
    Cert.Claims.frame_reference_pre, Cert.Claims.preserves, Cert.Claims.agreement⟩

end Cert.Proof

end
